-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x8192x7168 : Shape := ⟨3, ![6, 8192, 7168]⟩
abbrev S2112x7168 : Shape := ⟨2, ![2112, 7168]⟩
abbrev S2112 : Shape := ⟨1, ![2112]⟩
abbrev S1536 : Shape := ⟨1, ![1536]⟩
abbrev S512 : Shape := ⟨1, ![512]⟩
abbrev S49152x7168 : Shape := ⟨2, ![49152, 7168]⟩
abbrev S1x2112 : Shape := ⟨2, ![1, 2112]⟩
abbrev S1x1536 : Shape := ⟨2, ![1, 1536]⟩
abbrev S1x512 : Shape := ⟨2, ![1, 512]⟩
abbrev S49152x1536 : Shape := ⟨2, ![49152, 1536]⟩
abbrev S49152x512 : Shape := ⟨2, ![49152, 512]⟩
abbrev S49152x64 : Shape := ⟨2, ![49152, 64]⟩
abbrev S49152x1 : Shape := ⟨2, ![49152, 1]⟩
abbrev S256x7168 : Shape := ⟨2, ![256, 7168]⟩
abbrev S256x1536 : Shape := ⟨2, ![256, 1536]⟩
abbrev S256x512 : Shape := ⟨2, ![256, 512]⟩
abbrev S256x64 : Shape := ⟨2, ![256, 64]⟩
abbrev S256x1 : Shape := ⟨2, ![256, 1]⟩
abbrev S256 : Shape := ⟨1, ![256]⟩
abbrev S256x2112 : Shape := ⟨2, ![256, 2112]⟩
abbrev S6x8192x1536 : Shape := ⟨3, ![6, 8192, 1536]⟩
abbrev S6x8192x512 : Shape := ⟨3, ![6, 8192, 512]⟩
abbrev S6x8192x64 : Shape := ⟨3, ![6, 8192, 64]⟩
abbrev S6x8192 : Shape := ⟨2, ![6, 8192]⟩

abbrev nBuf : Space → Nat
  | .hbm => 19
  | .vmem => 17
  | .smem => 0
  | _ => 0

abbrev bufTy : (tb : Table) → Fin (tcTables nBuf tb) → BufTy
  | .hbm, ⟨0, _⟩ => ⟨S6x8192x7168, .bf16⟩
  | .hbm, ⟨1, _⟩ => ⟨S2112x7168, .i8⟩
  | .hbm, ⟨2, _⟩ => ⟨S2112, .f32⟩
  | .hbm, ⟨3, _⟩ => ⟨S1536, .f32⟩
  | .hbm, ⟨4, _⟩ => ⟨S512, .f32⟩
  | .hbm, ⟨5, _⟩ => ⟨S49152x7168, .bf16⟩
  | .hbm, ⟨6, _⟩ => ⟨S1x2112, .f32⟩
  | .hbm, ⟨7, _⟩ => ⟨S1x1536, .f32⟩
  | .hbm, ⟨8, _⟩ => ⟨S1x512, .f32⟩
  | .hbm, ⟨9, _⟩ => ⟨S49152x1536, .bf16⟩
  | .hbm, ⟨10, _⟩ => ⟨S49152x512, .bf16⟩
  | .hbm, ⟨11, _⟩ => ⟨S49152x64, .bf16⟩
  | .hbm, ⟨12, _⟩ => ⟨S49152x7168, .i8⟩
  | .hbm, ⟨13, _⟩ => ⟨S49152x1, .f32⟩
  | .hbm, ⟨14, _⟩ => ⟨S6x8192x1536, .bf16⟩
  | .hbm, ⟨15, _⟩ => ⟨S6x8192x512, .bf16⟩
  | .hbm, ⟨16, _⟩ => ⟨S6x8192x64, .bf16⟩
  | .hbm, ⟨17, _⟩ => ⟨S6x8192x7168, .i8⟩
  | .hbm, ⟨18, _⟩ => ⟨S6x8192, .f32⟩
  | .local _ .vmem, ⟨0, _⟩ => ⟨S256x7168, .bf16⟩
  | .local _ .vmem, ⟨1, _⟩ => ⟨S256x7168, .bf16⟩
  | .local _ .vmem, ⟨2, _⟩ => ⟨S2112x7168, .i8⟩
  | .local _ .vmem, ⟨3, _⟩ => ⟨S1x2112, .f32⟩
  | .local _ .vmem, ⟨4, _⟩ => ⟨S1x1536, .f32⟩
  | .local _ .vmem, ⟨5, _⟩ => ⟨S1x512, .f32⟩
  | .local _ .vmem, ⟨6, _⟩ => ⟨S256x1536, .bf16⟩
  | .local _ .vmem, ⟨7, _⟩ => ⟨S256x1536, .bf16⟩
  | .local _ .vmem, ⟨8, _⟩ => ⟨S256x512, .bf16⟩
  | .local _ .vmem, ⟨9, _⟩ => ⟨S256x512, .bf16⟩
  | .local _ .vmem, ⟨10, _⟩ => ⟨S256x64, .bf16⟩
  | .local _ .vmem, ⟨11, _⟩ => ⟨S256x64, .bf16⟩
  | .local _ .vmem, ⟨12, _⟩ => ⟨S256x7168, .i8⟩
  | .local _ .vmem, ⟨13, _⟩ => ⟨S256x7168, .i8⟩
  | .local _ .vmem, ⟨14, _⟩ => ⟨S256x1, .f32⟩
  | .local _ .vmem, ⟨15, _⟩ => ⟨S256x1, .f32⟩
  | .local _ .vmem, ⟨16, _⟩ => ⟨S2112x7168, .bf16⟩
  | _, _ => ⟨S6x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![192], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2112x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x7168 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S6x8192x7168 : Shape := ⟨3, ![6, 8192, 7168]⟩
abbrev S2112x7168 : Shape := ⟨2, ![2112, 7168]⟩
abbrev S2112 : Shape := ⟨1, ![2112]⟩
abbrev S1536 : Shape := ⟨1, ![1536]⟩
abbrev S512 : Shape := ⟨1, ![512]⟩
abbrev S6x8192x1536 : Shape := ⟨3, ![6, 8192, 1536]⟩
abbrev S6x8192x512 : Shape := ⟨3, ![6, 8192, 512]⟩
abbrev S6x8192x64 : Shape := ⟨3, ![6, 8192, 64]⟩
abbrev S6x8192 : Shape := ⟨2, ![6, 8192]⟩
abbrev S6x8192x1 : Shape := ⟨3, ![6, 8192, 1]⟩
abbrev S6x8192x2112 : Shape := ⟨3, ![6, 8192, 2112]⟩
abbrev S1x1x2112 : Shape := ⟨3, ![1, 1, 2112]⟩
abbrev S1x1x1536 : Shape := ⟨3, ![1, 1, 1536]⟩
abbrev S1x1x512 : Shape := ⟨3, ![1, 1, 512]⟩

abbrev nBuf : Space → Nat
  | .hbm => 10
  | .vmem => 10
  | .smem => 0
  | _ => 0

abbrev bufTy : (tb : Table) → Fin (tcTables nBuf tb) → BufTy
  | .hbm, ⟨0, _⟩ => ⟨S6x8192x7168, .bf16⟩
  | .hbm, ⟨1, _⟩ => ⟨S2112x7168, .i8⟩
  | .hbm, ⟨2, _⟩ => ⟨S2112, .f32⟩
  | .hbm, ⟨3, _⟩ => ⟨S1536, .f32⟩
  | .hbm, ⟨4, _⟩ => ⟨S512, .f32⟩
  | .hbm, ⟨5, _⟩ => ⟨S6x8192x1536, .bf16⟩
  | .hbm, ⟨6, _⟩ => ⟨S6x8192x512, .bf16⟩
  | .hbm, ⟨7, _⟩ => ⟨S6x8192x64, .bf16⟩
  | .hbm, ⟨8, _⟩ => ⟨S6x8192x7168, .i8⟩
  | .hbm, ⟨9, _⟩ => ⟨S6x8192, .f32⟩
  | .local _ .vmem, ⟨0, _⟩ => ⟨S6x8192x7168, .bf16⟩
  | .local _ .vmem, ⟨1, _⟩ => ⟨S2112x7168, .i8⟩
  | .local _ .vmem, ⟨2, _⟩ => ⟨S2112, .f32⟩
  | .local _ .vmem, ⟨3, _⟩ => ⟨S1536, .f32⟩
  | .local _ .vmem, ⟨4, _⟩ => ⟨S512, .f32⟩
  | .local _ .vmem, ⟨5, _⟩ => ⟨S6x8192x1536, .bf16⟩
  | .local _ .vmem, ⟨6, _⟩ => ⟨S6x8192x512, .bf16⟩
  | .local _ .vmem, ⟨7, _⟩ => ⟨S6x8192x64, .bf16⟩
  | .local _ .vmem, ⟨8, _⟩ => ⟨S6x8192x7168, .i8⟩
  | .local _ .vmem, ⟨9, _⟩ => ⟨S6x8192, .f32⟩
  | _, _ => ⟨S6x8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S6x8192x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2112x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2112 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x8192x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x8192x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x8192x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x8192x7168 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBlocks.lean ====
/-
  What the kernel's staging buffers hold after each grid point. The weights' conversion, made at the first point only and kept
  in the scratch, is the same at every point; so each stored block is one payload of that point's activation block, the
  converted weights and the whole small operands.
-/
module

public import proofs.«01_k».proof.Proof.Gen.KernelIdeal.Frame
public import Idealize.ShloMosaic.Lib.Pipeline.ValueKit

@[expose] public section

set_option maxRecDepth 16384

noncomputable section

namespace Cert.KernelIdeal.Blocks

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The block index of every window at every point: the activation and the five results move down one block a point, the
    other operands stay. -/
theorem idx : ∀ t : Fin cfg0.N,
    win0_0.index t 0 = t.val ∧ win0_0.index t 1 = 0
    ∧ win0_1.index t 0 = 0 ∧ win0_1.index t 1 = 0 ∧ win0_2.index t 0 = 0 ∧ win0_2.index t 1 = 0
    ∧ win0_3.index t 0 = 0 ∧ win0_3.index t 1 = 0 ∧ win0_4.index t 0 = 0 ∧ win0_4.index t 1 = 0
    ∧ win0_5.index t 0 = t.val ∧ win0_5.index t 1 = 0 ∧ win0_6.index t 0 = t.val ∧ win0_6.index t 1 = 0
    ∧ win0_7.index t 0 = t.val ∧ win0_7.index t 1 = 0 ∧ win0_8.index t 0 = t.val ∧ win0_8.index t 1 = 0
    ∧ win0_9.index t 0 = t.val ∧ win0_9.index t 1 = 0 :=
  (by decide +kernel : ∀ t : Fin grid0.N, _)

/-- The weight block at any point is the weight argument. -/
theorem iblk1_eq (c : Dev nD) (t : Fin cfg0.N) : iblk m c 1 t = m ((c : Thread nD τ).loc main_arg1) := by
  funext y
  blk_point [iblk, V, idx t]

/-- The scratch after the first point: the converted weights. -/
theorem scratch_A (c : Dev nD) (t : Fin cfg0.N) (h : t.val % 192 = 0) :
    (outsAt0 m c t.val t.isLt).2.2.2.2.2 = k0_pay4 (F := Ideal) (m ((c : Thread nD τ).loc main_arg1)) := by
  rw [outsAt0_A m c t h]
  frame_out
  rw [iblk1_eq]

/-- The scratch after every point: the converted weights, which no later point writes. -/
theorem scratch_eq (c : Dev nD) : ∀ (n : ℕ) (h : n < cfg0.N),
    (outsAt0 m c n h).2.2.2.2.2 = k0_pay4 (F := Ideal) (m ((c : Thread nD τ).loc main_arg1))
  | 0, h => scratch_A m c ⟨0, h⟩ rfl
  | n + 1, h => by
    by_cases h0 : (n + 1) % 192 = 0
    · exact scratch_A m c ⟨n + 1, h⟩ h0
    · rw [outsAt0_B m c ⟨n + 1, h⟩ h0]
      dsimp only [sout0_B_0, Nat.add_sub_cancel]
      exact scratch_eq c n (Nat.lt_of_succ_lt h)

/-- The query block after a point. -/
theorem q_eq (c : Dev nD) (t : Fin cfg0.N) :
    (outsAt0 m c t.val t.isLt).1 = k0_pay1 (F := Ideal) (k0_pay9 (iblk m c 0 t)
      (k0_pay4 (m ((c : Thread nD τ).loc main_arg1))) (iblk m c 2 t)) (iblk m c 3 t) := by
  by_cases h : t.val % 192 = 0
  · rw [outsAt0_A m c t h]
    frame_out
    rw [iblk1_eq]
  · rw [outsAt0_B m c t h]
    frame_out
    rw [scratch_eq, (Memref.isWhole_whole cc0_scratch0).read_unread]

/-- The key/value block after a point. -/
theorem kv_eq (c : Dev nD) (t : Fin cfg0.N) :
    (outsAt0 m c t.val t.isLt).2.1 = k0_pay2 (F := Ideal) (k0_pay8 (iblk m c 0 t)
      (k0_pay4 (m ((c : Thread nD τ).loc main_arg1))) (iblk m c 2 t)) (iblk m c 4 t) := by
  by_cases h : t.val % 192 = 0
  · rw [outsAt0_A m c t h]
    frame_out
    rw [iblk1_eq]
  · rw [outsAt0_B m c t h]
    frame_out
    rw [scratch_eq, (Memref.isWhole_whole cc0_scratch0).read_unread]

/-- The positional block after a point. -/
theorem pe_eq (c : Dev nD) (t : Fin cfg0.N) :
    (outsAt0 m c t.val t.isLt).2.2.1 = k0_pay3 (F := Ideal) (k0_pay8 (iblk m c 0 t)
      (k0_pay4 (m ((c : Thread nD τ).loc main_arg1))) (iblk m c 2 t)) := by
  by_cases h : t.val % 192 = 0
  · rw [outsAt0_A m c t h]
    frame_out
    rw [iblk1_eq]
  · rw [outsAt0_B m c t h]
    frame_out
    rw [scratch_eq, (Memref.isWhole_whole cc0_scratch0).read_unread]

/-- The block of codes after a point. -/
theorem code_eq (c : Dev nD) (t : Fin cfg0.N) :
    (outsAt0 m c t.val t.isLt).2.2.2.1 = k0_pay7 (F := Ideal) (iblk m c 0 t) := by
  by_cases h : t.val % 192 = 0
  · rw [outsAt0_A m c t h]
    frame_out
  · rw [outsAt0_B m c t h]
    frame_out

/-- The column of scales after a point. -/
theorem s_eq (c : Dev nD) (t : Fin cfg0.N) :
    (outsAt0 m c t.val t.isLt).2.2.2.2.1 = k0_pay6 (F := Ideal) (iblk m c 0 t) := by
  by_cases h : t.val % 192 = 0
  · rw [outsAt0_A m c t h]
    frame_out
  · rw [outsAt0_B m c t h]
    frame_out

end Cert.KernelIdeal.Blocks

end
-- ==== Proof.Rows.lean ====
/-
  What one token's row becomes, as plain functions on the extended reals. Every result of the layer depends on one row of
  the activation only, so both programs are read against these functions: the blocked kernel at row `256 t + i` and the
  three-dimensional reference at token `(b, s)`.
-/
module

public import Idealize.ShloMosaic.Lib.Pointwise

@[expose] public section

noncomputable section

namespace Cert.Rows

open Idealize.ShloMosaic

/-- The largest magnitude of a row, folded from the reduction's own starting value. -/
def rowMax (r : Fin 7168 → EReal) : EReal :=
  Finset.univ.fold max (Ideal.ofBits .f32 0xFF800000#32) fun k => FloatOps.absf (F := Ideal) (φ := .f32) (r k)

/-- The quantiser's scale from the largest magnitude `a`: one for a zero row, `a / 127` otherwise. -/
def scaleOf (a : EReal) : EReal :=
  if a = 0 then 1 else Ideal.div a (Ideal.ofBits .f32 0x42FE0000#32)

/-- A row's scale. -/
def rowScale (r : Fin 7168 → EReal) : EReal := scaleOf (rowMax r)

/-- The code of one value at scale `s`: divided, rounded to the nearest integer, clipped to `[-127, 127]`, as a signed byte. -/
def codeOf (s x : EReal) : BitVec 8 :=
  FloatOps.fptosi (F := Ideal) (φ := .f32) 8
    (min (Ideal.ofBits .f32 0x42FE0000#32)
      (max (Ideal.ofBits .f32 0xC2FE0000#32) (Ideal.liftRound Ideal.roundHalfEven (Ideal.div x s))))

/-- A row's codes. -/
def rowCode (r : Fin 7168 → EReal) (k : Fin 7168) : BitVec 8 := codeOf (rowScale r) (r k)

/-- One projected value from a row of codes, a row of weights, the row's scale and the weight row's scale. -/
def projOf (q w : Fin 7168 → BitVec 8) (s ws : EReal) : EReal :=
  (∑ k : Fin 7168, FloatOps.sitofp (F := Ideal) .bf16 (q k) * FloatOps.sitofp (F := Ideal) .bf16 (w k)) * (s * ws)

/-- The projected row: 2112 values of one token. -/
def rowProj (r : Fin 7168 → EReal) (w : Fin 2112 → Fin 7168 → BitVec 8) (ws : Fin 2112 → EReal) (n : Fin 2112) : EReal :=
  projOf (rowCode r) (w n) (rowScale r) (ws n)

/-- A value `v j` normalised by its row's root mean square (`c` is the row's length, the other constant the epsilon) and
    scaled by `g`. -/
def normOf {n : ℕ} (c : EReal) (v : Fin n → EReal) (g : EReal) (j : Fin n) : EReal :=
  v j * Ideal.rsqrt (Ideal.div (∑ l : Fin n, v l * v l) c + Ideal.ofBits .f32 0x358637BD#32) * g

end Cert.Rows

end
-- ==== Proof.KernelRows.lean ====
/-
  The kernel's arithmetic at one element of a block: each stored value, read at row `i` of a block of 256 rows, is the row
  function of `Rows` at that row of the activation block.
-/
module

public import proofs.«01_k».proof.Proof.Gen.KernelIdeal.Skeleton
public import proofs.«01_k».proof.Proof.Rows

@[expose] public section

set_option maxRecDepth 16384

noncomputable section

namespace Cert.KernelIdeal.Rows

open Idealize.ShloMosaic Idealize.SL.Sem Cert.KernelIdeal Cert.KernelIdeal.Gen Cert.Rows

/-- The row maximum of the magnitudes. -/
theorem max_apply (x : FVec Ideal S256x7168 .f32) (h : S256x7168.Reduces [1] S256) (hk hw) (i : Fin 256) :
    multiReduction (F := Ideal) .maximumf [1] S256 (absf x) 0xFF800000#32 h hk hw (ix1 i)
      = rowMax fun k => x (ix2 i k) := by
  unfold rowMax
  pointwise

/-- The scale, from any column of row maxima. -/
theorem scale_apply (v : FVec Ideal S256 .f32) (h : S256.ShapeCasts S256x1) (i : Fin 256) :
    select (cmpf .oeq (shapeCast S256x1 v h) (broadcast S256x1 (Scalar.ofBits (F := Ideal) .f32 0x00000000#32)))
        (broadcast S256x1 (Scalar.ofBits (F := Ideal) .f32 0x3F800000#32))
        (divf (shapeCast S256x1 v h) (broadcast S256x1 (Scalar.ofBits (F := Ideal) .f32 0x42FE0000#32))) (ix2 i 0)
      = scaleOf (v (ix1 i)) := by
  unfold scaleOf
  pointwise

/-- The activation block converted to f32 is the block. -/
theorem pay5_eq (x : Vec Ideal S256x7168 .bf16) : k0_pay5 (F := Ideal) x = x := by
  funext j
  pointwise [k0_pay5]

/-- The stored scale of row `i`. -/
theorem pay6_apply (x : Vec Ideal S256x7168 .bf16) (i : Fin 256) :
    k0_pay6 (F := Ideal) x (ix2 i 0) = rowScale fun k => x (ix2 i k) :=
  (scale_apply _ _ i).trans (congrArg scaleOf ((max_apply _ _ _ _ i).trans (by rw [pay5_eq])))

/-- The code, from any column of scales. -/
theorem code_apply (x : FVec Ideal S256x7168 .f32) (s : FVec Ideal S256x1 .f32) (h : S256x1.Broadcasts S256x7168)
    (i : Fin 256) (k : Fin 7168) :
    fptosi 8 (minimumf (broadcast S256x7168 (Scalar.ofBits (F := Ideal) .f32 0x42FE0000#32))
        (maximumf (broadcast S256x7168 (Scalar.ofBits (F := Ideal) .f32 0xC2FE0000#32))
          (roundeven (divf x (broadcastTo S256x7168 s h))))) (ix2 i k)
      = codeOf (s (ix2 i 0)) (x (ix2 i k)) := by
  unfold codeOf
  pointwise

/-- The stored code of row `i` at column `k`. -/
theorem pay7_apply (x : Vec Ideal S256x7168 .bf16) (i : Fin 256) (k : Fin 7168) :
    k0_pay7 (F := Ideal) x (ix2 i k) = rowCode (fun k => x (ix2 i k)) k :=
  (code_apply _ _ _ i k).trans (by rw [pay6_apply, pay5_eq]; rfl)

/-- The weight converted to floats, element by element. -/
theorem pay4_apply (w : Vec Ideal S2112x7168 .i8) (n : Fin 2112) (k : Fin 7168) :
    k0_pay4 (F := Ideal) w (ix2 n k) = FloatOps.sitofp (F := Ideal) .bf16 (w (ix2 n k)) := by
  pointwise [k0_pay4]

/-- The scaled product, from any codes and any column of scales whose row `i` is known. -/
theorem proj_apply (q : IVec S256x7168 8) (s : FVec Ideal S256x1 .f32) (w : FVec Ideal S2112x7168 .bf16)
    (ws : FVec Ideal S1x2112 .f32) (h : S1x2112.ShapeCasts S1x2112) (hs : S256x1.Broadcasts S256x2112)
    (hw : S1x2112.Broadcasts S256x2112) (i : Fin 256) (n : Fin 2112) (qr wr : Fin 7168 → BitVec 8) (sr : EReal)
    (hqr : ∀ k, q (ix2 i k) = qr k) (hsr : s (ix2 i 0) = sr)
    (hwr : ∀ k, w (ix2 n k) = FloatOps.sitofp (F := Ideal) .bf16 (wr k)) :
    mulf (matmul (F := Ideal) (φ₁ := .bf16) (φ₂ := .bf16) dot_S256x7168_S2112x7168_S256x2112_1_1_0_0_n_n none
          (sitofp .bf16 q) w (constant S256x2112 .f32 0x00000000#32))
        (mulf (broadcastTo S256x2112 s hs) (broadcastTo S256x2112 (shapeCast S1x2112 ws h) hw)) (ix2 i n)
      = projOf qr wr sr (ws (ix2 0 n)) := by
  unfold projOf
  pointwise
  simp only [hqr, hwr, hsr]

/-- The projected value of row `i` at column `n`. -/
theorem pay8_apply (x : Vec Ideal S256x7168 .bf16) (w : Vec Ideal S2112x7168 .i8) (ws : Vec Ideal S1x2112 .f32)
    (i : Fin 256) (n : Fin 2112) :
    k0_pay8 (F := Ideal) x (k0_pay4 w) ws (ix2 i n)
      = rowProj (fun k => x (ix2 i k)) (fun n k => w (ix2 n k)) (fun n => ws (ix2 0 n)) n :=
  proj_apply _ _ _ _ _ _ _ i n _ _ _ (fun k => pay7_apply x i k) (pay6_apply x i) (fun k => pay4_apply w n k)

/-- The slice of the projection the query norm reads. -/
theorem slice_q_apply (x : Vec Ideal S256x7168 .bf16) (w : Vec Ideal S2112x7168 .bf16) (ws : Vec Ideal S1x2112 .f32)
    (i : Fin 256) (l : Fin 1536) :
    k0_pay9 (F := Ideal) x w ws (ix2 i l) = k0_pay8 (F := Ideal) x w ws (ix2 i ⟨l.val, by omega⟩) := by
  unfold k0_pay9
  generalize k0_pay8 (F := Ideal) x w ws = y
  pointwise

/-- The projected value of row `i` among the first 1536 columns. -/
theorem pay9_apply (x : Vec Ideal S256x7168 .bf16) (w : Vec Ideal S2112x7168 .i8) (ws : Vec Ideal S1x2112 .f32)
    (i : Fin 256) (l : Fin 1536) :
    k0_pay9 (F := Ideal) x (k0_pay4 w) ws (ix2 i l)
      = rowProj (fun k => x (ix2 i k)) (fun n k => w (ix2 n k)) (fun n => ws (ix2 0 n)) ⟨l.val, by omega⟩ :=
  (slice_q_apply x (k0_pay4 w) ws i l).trans (pay8_apply x w ws i _)

/-- The query norm, from any 1536 columns. -/
theorem pay1_apply (v : FVec Ideal S256x1536 .f32) (g : Vec Ideal S1x1536 .f32) (i : Fin 256) (j : Fin 1536) :
    k0_pay1 (F := Ideal) v g (ix2 i j)
      = normOf (Ideal.ofBits .f32 0x44C00000#32) (fun l => v (ix2 i l)) (g (ix2 0 j)) j := by
  unfold normOf
  pointwise [k0_pay1]

/-- The stored query row `i` at column `j`. -/
theorem q_apply (x : Vec Ideal S256x7168 .bf16) (w : Vec Ideal S2112x7168 .i8) (ws : Vec Ideal S1x2112 .f32)
    (g : Vec Ideal S1x1536 .f32) (i : Fin 256) (j : Fin 1536) :
    k0_pay1 (F := Ideal) (k0_pay9 x (k0_pay4 w) ws) g (ix2 i j)
      = normOf (Ideal.ofBits .f32 0x44C00000#32)
          (fun l => rowProj (fun k => x (ix2 i k)) (fun n k => w (ix2 n k)) (fun n => ws (ix2 0 n)) ⟨l.val, by omega⟩)
          (g (ix2 0 j)) j := by
  rw [pay1_apply]
  exact congrArg (fun v => normOf _ v _ j) (funext fun l => pay9_apply x w ws i l)

/-- The key/value norm of columns 1536 to 2047 of any projection. -/
theorem pay2_apply (y : FVec Ideal S256x2112 .f32) (g : Vec Ideal S1x512 .f32) (i : Fin 256) (j : Fin 512) :
    k0_pay2 (F := Ideal) y g (ix2 i j)
      = normOf (Ideal.ofBits .f32 0x44000000#32) (fun l => y (ix2 i ⟨1536 + l.val, by omega⟩)) (g (ix2 0 j)) j := by
  unfold normOf
  pointwise [k0_pay2]

/-- The stored key/value row `i` at column `j`. -/
theorem kv_apply (x : Vec Ideal S256x7168 .bf16) (w : Vec Ideal S2112x7168 .i8) (ws : Vec Ideal S1x2112 .f32)
    (g : Vec Ideal S1x512 .f32) (i : Fin 256) (j : Fin 512) :
    k0_pay2 (F := Ideal) (k0_pay8 x (k0_pay4 w) ws) g (ix2 i j)
      = normOf (Ideal.ofBits .f32 0x44000000#32)
          (fun l => rowProj (fun k => x (ix2 i k)) (fun n k => w (ix2 n k)) (fun n => ws (ix2 0 n)) ⟨1536 + l.val, by omega⟩)
          (g (ix2 0 j)) j := by
  rw [pay2_apply]
  exact congrArg (fun v => normOf _ v _ j) (funext fun l => pay8_apply x w ws i _)

/-- Columns 2048 to 2111 of any projection. -/
theorem pay3_apply (y : FVec Ideal S256x2112 .f32) (i : Fin 256) (j : Fin 64) :
    k0_pay3 (F := Ideal) y (ix2 i j) = y (ix2 i ⟨2048 + j.val, by omega⟩) := by
  pointwise [k0_pay3]

/-- The stored positional row `i` at column `j`. -/
theorem pe_apply (x : Vec Ideal S256x7168 .bf16) (w : Vec Ideal S2112x7168 .i8) (ws : Vec Ideal S1x2112 .f32)
    (i : Fin 256) (j : Fin 64) :
    k0_pay3 (F := Ideal) (k0_pay8 x (k0_pay4 w) ws) (ix2 i j)
      = rowProj (fun k => x (ix2 i k)) (fun n k => w (ix2 n k)) (fun n => ws (ix2 0 n)) ⟨2048 + j.val, by omega⟩ :=
  (pay3_apply _ i j).trans (pay8_apply x w ws i _)

end Cert.KernelIdeal.Rows

end
-- ==== Proof.KernelArrays.lean ====
/-
  What the kernel's five result arrays hold after the whole grid: at row `r`, the row functions of `Rows` at row `r` of the
  flattened activation. Block `t` covers rows `256 t` to `256 t + 255`.
-/
module

public import proofs.«01_k».proof.Proof.KernelBlocks
public import proofs.«01_k».proof.Proof.KernelRows
public import Idealize.ShloMosaic.Lib.Pipeline.Covers

@[expose] public section

set_option maxRecDepth 16384

noncomputable section

namespace Cert.KernelIdeal.Arrays

open Idealize.ShloMosaic Idealize.ShloMosaic.TcCoe Idealize.SL.Sem
open Idealize.ShloMosaic.Pipeline (Dat)
open Cert.KernelIdeal Cert.KernelIdeal.Gen Cert.KernelIdeal.Blocks Cert.Rows

variable (m : (ℓ : Loc nD τ sig) → Buf (Elt Ideal) ℓ)

/-- Row `r` of the flattened activation. -/
def xRow (c : Dev nD) (r : Fin 49152) : Fin 7168 → EReal := fun k => (V m c main_v0 : Vec Ideal S49152x7168 .bf16) (ix2 r k)
/-- The weight argument by row and column. -/
def wMat (c : Dev nD) : Fin 2112 → Fin 7168 → BitVec 8 := fun n k =>
  (m ((c : Thread nD τ).loc main_arg1) : Vec Ideal S2112x7168 .i8) (ix2 n k)
/-- The weight scales. -/
def wScale (c : Dev nD) : Fin 2112 → EReal := fun n => (V m c main_v1 : Vec Ideal S1x2112 .f32) (ix2 0 n)
/-- The query gains. -/
def gainQ (c : Dev nD) : Fin 1536 → EReal := fun j => (V m c main_v2 : Vec Ideal S1x1536 .f32) (ix2 0 j)
/-- The key/value gains. -/
def gainKV (c : Dev nD) : Fin 512 → EReal := fun j => (V m c main_v3 : Vec Ideal S1x512 .f32) (ix2 0 j)

/-- The query of row `r`. -/
def Q (c : Dev nD) (r : Fin 49152) (j : Fin 1536) : EReal :=
  normOf (Ideal.ofBits .f32 0x44C00000#32) (fun l : Fin 1536 => rowProj (xRow m c r) (wMat m c) (wScale m c) ⟨l.val, by omega⟩)
    (gainQ m c j) j
/-- The key/value row of row `r`. -/
def KV (c : Dev nD) (r : Fin 49152) (j : Fin 512) : EReal :=
  normOf (Ideal.ofBits .f32 0x44000000#32)
    (fun l : Fin 512 => rowProj (xRow m c r) (wMat m c) (wScale m c) ⟨1536 + l.val, by omega⟩) (gainKV m c j) j
/-- The positional row of row `r`. -/
def PE (c : Dev nD) (r : Fin 49152) (j : Fin 64) : EReal :=
  rowProj (xRow m c r) (wMat m c) (wScale m c) ⟨2048 + j.val, by omega⟩

/-- The codes of row `r`. -/
def CODE (c : Dev nD) (r : Fin 49152) (k : Fin 7168) : BitVec 8 := rowCode (xRow m c r) k

/-- A row of a point's activation block is the matching row of the flattened activation. -/
theorem row_eq (c : Dev nD) (t : Fin cfg0.N) (i : Fin 256) (r : Fin 49152) (hr : r.val = 256 * t.val + i.val) :
    (fun k : Fin 7168 => (iblk m c 0 t : Vec Ideal S256x7168 .bf16) (ix2 i k)) = xRow m c r := by
  funext k
  unfold xRow
  blk_point [iblk, idx t, hr]

/-- The weight scales at any point. -/
theorem wScale_eq (c : Dev nD) (t : Fin cfg0.N) :
    (fun n : Fin 2112 => (iblk m c 2 t : Vec Ideal S1x2112 .f32) (ix2 0 n)) = wScale m c := by
  funext n
  unfold wScale
  blk_point [iblk, idx t]

/-- The query gains at any point. -/
theorem gainQ_eq (c : Dev nD) (t : Fin cfg0.N) (j : Fin 1536) :
    (iblk m c 3 t : Vec Ideal S1x1536 .f32) (ix2 0 j) = gainQ m c j := by
  unfold gainQ
  blk_point [iblk, idx t]

/-- The key/value gains at any point. -/
theorem gainKV_eq (c : Dev nD) (t : Fin cfg0.N) (j : Fin 512) :
    (iblk m c 4 t : Vec Ideal S1x512 .f32) (ix2 0 j) = gainKV m c j := by
  unfold gainKV
  blk_point [iblk, idx t]

/-- The stored query block at row `i`, column `j`, for the array's row `r` it lands on. -/
theorem q_point (c : Dev nD) (t : Fin cfg0.N) (i : Fin 256) (j : Fin 1536) (r : Fin 49152)
    (hr : r.val = 256 * t.val + i.val) (j' : Fin 1536) (hj : j'.val = j.val) :
    (outsAt0 m c t.val t.isLt).1 (ix2 i j) = Q m c r j' := by
  obtain rfl : j' = j := Fin.ext hj
  rw [congrFun (q_eq m c t) (ix2 i j'), KernelIdeal.Rows.q_apply, row_eq m c t i r hr, wScale_eq m c t, gainQ_eq m c t]
  rfl

/-- The blocks of result window 5 cover its array. -/
theorem covers5 : win0_5.Covers :=
  win0_5.covers_of_index_surj rfl (by decide) fun β => by
    have h0 : (β 0).val < 192 := lt_of_lt_of_eq (β 0).isLt (by decide)
    have h1 : (β 1).val < 1 := lt_of_lt_of_eq (β 1).isLt (by decide)
    have ht : (β 0).val < cfg0.N := by rw [show cfg0.N = 192 from N_0]; exact h0
    obtain ⟨-, -, -, -, -, -, -, -, -, -, i0, i1, -⟩ := idx ⟨(β 0).val, ht⟩
    refine ⟨⟨(β 0).val, ht⟩, fun a => ?_⟩
    fin_cases a
    · exact i0
    · exact i1.trans (by show 0 = (β 1).val; omega)

/-- The query array after the grid. -/
theorem final_q (c : Dev nD) : (dats m 0 c).arrAt 5 cfg0.N = fun i : S49152x1536.Idx => Q m c (i 0) (i 1) := by
  refine (dats m 0 c).arrAt_eq_of_covers 5 _ covers5 fun t _ y => ?_
  rw [after0_5]
  blk_simp
  idx_vars y
  refine q_point m c t y0 y1 _ ?_ _ ?_
  · blk_simp [idx t]
    omega
  · blk_simp [idx t]

/-- The stored key/value block at row `i`, column `j`, for the array's row `r` it lands on. -/
theorem kv_point (c : Dev nD) (t : Fin cfg0.N) (i : Fin 256) (j : Fin 512) (r : Fin 49152)
    (hr : r.val = 256 * t.val + i.val) (j' : Fin 512) (hj : j'.val = j.val) :
    (outsAt0 m c t.val t.isLt).2.1 (ix2 i j) = KV m c r j' := by
  obtain rfl : j' = j := Fin.ext hj
  rw [congrFun (kv_eq m c t) (ix2 i j'), KernelIdeal.Rows.kv_apply, row_eq m c t i r hr, wScale_eq m c t, gainKV_eq m c t]
  rfl

/-- The blocks of result window 6 cover its array. -/
theorem covers6 : win0_6.Covers :=
  win0_6.covers_of_index_surj rfl (by decide) fun β => by
    have h0 : (β 0).val < 192 := lt_of_lt_of_eq (β 0).isLt (by decide)
    have h1 : (β 1).val < 1 := lt_of_lt_of_eq (β 1).isLt (by decide)
    have ht : (β 0).val < cfg0.N := by rw [show cfg0.N = 192 from N_0]; exact h0
    obtain ⟨-, -, -, -, -, -, -, -, -, -, -, -, i0, i1, -⟩ := idx ⟨(β 0).val, ht⟩
    refine ⟨⟨(β 0).val, ht⟩, fun a => ?_⟩
    fin_cases a
    · exact i0
    · exact i1.trans (by show 0 = (β 1).val; omega)

/-- The key/value array after the grid. -/
theorem final_kv (c : Dev nD) : (dats m 0 c).arrAt 6 cfg0.N = fun i : S49152x512.Idx => KV m c (i 0) (i 1) := by
  refine (dats m 0 c).arrAt_eq_of_covers 6 _ covers6 fun t _ y => ?_
  rw [after0_6]
  blk_simp
  idx_vars y
  refine kv_point m c t y0 y1 _ ?_ _ ?_
  · blk_simp [idx t]
    omega
  · blk_simp [idx t]

/-- The stored positional block at row `i`, column `j`, for the array's row `r` it lands on. -/
theorem pe_point (c : Dev nD) (t : Fin cfg0.N) (i : Fin 256) (j : Fin 64) (r : Fin 49152)
    (hr : r.val = 256 * t.val + i.val) (j' : Fin 64) (hj : j'.val = j.val) :
    (outsAt0 m c t.val t.isLt).2.2.1 (ix2 i j) = PE m c r j' := by
  obtain rfl : j' = j := Fin.ext hj
  rw [congrFun (pe_eq m c t) (ix2 i j'), KernelIdeal.Rows.pe_apply, row_eq m c t i r hr, wScale_eq m c t]
  rfl

/-- The blocks of result window 7 cover its array. -/
theorem covers7 : win0_7.Covers :=
  win0_7.covers_of_index_surj rfl (by decide) fun β => by
    have h0 : (β 0).val < 192 := lt_of_lt_of_eq (β 0).isLt (by decide)
    have h1 : (β 1).val < 1 := lt_of_lt_of_eq (β 1).isLt (by decide)
    have ht : (β 0).val < cfg0.N := by rw [show cfg0.N = 192 from N_0]; exact h0
    obtain ⟨-, -, -, -, -, -, -, -, -, -, -, -, -, -, i0, i1, -⟩ := idx ⟨(β 0).val, ht⟩
    refine ⟨⟨(β 0).val, ht⟩, fun a => ?_⟩
    fin_cases a
    · exact i0
    · exact i1.trans (by show 0 = (β 1).val; omega)

/-- The positional array after the grid. -/
theorem final_pe (c : Dev nD) : (dats m 0 c).arrAt 7 cfg0.N = fun i : S49152x64.Idx => PE m c (i 0) (i 1) := by
  refine (dats m 0 c).arrAt_eq_of_covers 7 _ covers7 fun t _ y => ?_
  rw [after0_7]
  blk_simp
  idx_vars y
  refine pe_point m c t y0 y1 _ ?_ _ ?_
  · blk_simp [idx t]
    omega
  · blk_simp [idx t]

/-- The stored code block at row `i`, column `j`, for the array's row `r` it lands on. -/
theorem code_point (c : Dev nD) (t : Fin cfg0.N) (i : Fin 256) (j : Fin 7168) (r : Fin 49152)
    (hr : r.val = 256 * t.val + i.val) (j' : Fin 7168) (hj : j'.val = j.val) :
    (outsAt0 m c t.val t.isLt).2.2.2.1 (ix2 i j) = CODE m c r j' := by
  obtain rfl : j' = j := Fin.ext hj
  rw [congrFun (code_eq m c t) (ix2 i j'), KernelIdeal.Rows.pay7_apply, row_eq m c t i r hr]
  rfl

/-- The blocks of result window 8 cover its array. -/
theorem covers8 : win0_8.Covers :=
  win0_8.covers_of_index_surj rfl (by decide) fun β => by
    have h0 : (β 0).val < 192 := lt_of_lt_of_eq (β 0).isLt (by decide)
    have h1 : (β 1).val < 1 := lt_of_lt_of_eq (β 1).isLt (by decide)
    have ht : (β 0).val < cfg0.N := by rw [show cfg0.N = 192 from N_0]; exact h0
    obtain ⟨-, -, -, -, -, -, -, -, -, -, -, -, -, -, -, -, i0, i1, -⟩ := idx ⟨(β 0).val, ht⟩
    refine ⟨⟨(β 0).val, ht⟩, fun a => ?_⟩
    fin_cases a
    · exact i0
    · exact i1.trans (by show 0 = (β 1).val; omega)

/-- The code array after the grid. -/
theorem final_code (c : Dev nD) : (dats m 0 c).arrAt 8 cfg0.N = fun i : S49152x7168.Idx => CODE m c (i 0) (i 1) := by
  refine (dats m 0 c).arrAt_eq_of_covers 8 _ covers8 fun t _ y => ?_
  rw [after0_8]
  blk_simp
  idx_vars y
  refine code_point m c t y0 y1 _ ?_ _ ?_
  · blk_simp [idx t]
    omega
  · blk_simp [idx t]

/-- The stored column of scales at row `i`, for the array's row `r` it lands on. -/
theorem s_point (c : Dev nD) (t : Fin cfg0.N) (i : Fin 256) (j : Fin 1) (r : Fin 49152)
    (hr : r.val = 256 * t.val + i.val) : (outsAt0 m c t.val t.isLt).2.2.2.2.1 (ix2 i j) = rowScale (xRow m c r) := by
  obtain rfl : j = 0 := Subsingleton.elim _ _
  rw [congrFun (s_eq m c t) (ix2 i 0), KernelIdeal.Rows.pay6_apply, row_eq m c t i r hr]

/-- The blocks of result window 9 cover its array. -/
theorem covers9 : win0_9.Covers :=
  win0_9.covers_of_index_surj rfl (by decide) fun β => by
    have h0 : (β 0).val < 192 := lt_of_lt_of_eq (β 0).isLt (by decide)
    have h1 : (β 1).val < 1 := lt_of_lt_of_eq (β 1).isLt (by decide)
    have ht : (β 0).val < cfg0.N := by rw [show cfg0.N = 192 from N_0]; exact h0
    obtain ⟨-, -, -, -, -, -, -, -, -, -, -, -, -, -, -, -, -, -, i0, i1⟩ := idx ⟨(β 0).val, ht⟩
    refine ⟨⟨(β 0).val, ht⟩, fun a => ?_⟩
    fin_cases a
    · exact i0
    · exact i1.trans (by show 0 = (β 1).val; omega)

/-- The column of scales after the grid. -/
theorem final_s (c : Dev nD) : (dats m 0 c).arrAt 9 cfg0.N = fun i : S49152x1.Idx => rowScale (xRow m c (i 0)) := by
  refine (dats m 0 c).arrAt_eq_of_covers 9 _ covers9 fun t _ y => ?_
  rw [after0_9]
  blk_simp
  idx_vars y
  refine s_point m c t y0 y1 _ ?_
  blk_simp [idx t]
  omega

end Cert.KernelIdeal.Arrays

end
-- ==== Proof.KernelResults.lean ====
/-
  The kernel's five results after the host's closing reshapes, element by element from the arguments as launched: token
  `(a, b)` is row `8192 a + b` of the arrays the grid reads and fills.
-/
module

public import proofs.«01_k».proof.Proof.KernelArrays
public import Idealize.ShloMosaic.Lib.Claim

@[expose] public section

set_option maxRecDepth 16384

noncomputable section

namespace Cert.KernelIdeal.Results

open Idealize.ShloMosaic Idealize.ShloMosaic.TcCoe Idealize.SL.Sem
open Cert.KernelIdeal Cert.KernelIdeal.Gen Cert.KernelIdeal.Arrays Cert.Rows

/-! ## The reshapes, element by element -/

/-- Flattening the tokens keeps their columns. -/
theorem flat_x (x : Vec Ideal S6x8192x7168 .bf16) (h : S6x8192x7168.ShapeCasts S49152x7168) (r : Fin 49152) (a : Fin 6)
    (b : Fin 8192) (hr : r.val = a.val * 8192 + b.val) (k : Fin 7168) :
    shapeCast S49152x7168 x h (ix2 r k) = x (ix3 a b k) := by
  pointwise
  blk_ext

/-- A vector of 2112 as one row. -/
theorem row_2112 (x : Vec Ideal S2112 .f32) (h : S2112.ShapeCasts S1x2112) (j : Fin 2112) :
    shapeCast S1x2112 x h (ix2 0 j) = x (ix1 j) := by
  pointwise

/-- A vector of 1536 as one row. -/
theorem row_1536 (x : Vec Ideal S1536 .f32) (h : S1536.ShapeCasts S1x1536) (j : Fin 1536) :
    shapeCast S1x1536 x h (ix2 0 j) = x (ix1 j) := by
  pointwise

/-- A vector of 512 as one row. -/
theorem row_512 (x : Vec Ideal S512 .f32) (h : S512.ShapeCasts S1x512) (j : Fin 512) :
    shapeCast S1x512 x h (ix2 0 j) = x (ix1 j) := by
  pointwise

/-- Row `8192 a + b` of 1536 columns is token `(a, b)`. -/
theorem fold_1536 (x : Vec Ideal S49152x1536 .bf16) (h : S49152x1536.ShapeCasts S6x8192x1536) (r : Fin 49152) (a : Fin 6)
    (b : Fin 8192) (hr : r.val = a.val * 8192 + b.val) (j : Fin 1536) :
    shapeCast S6x8192x1536 x h (ix3 a b j) = x (ix2 r j) := by
  pointwise
  blk_ext

/-- Row `8192 a + b` of 512 columns is token `(a, b)`. -/
theorem fold_512 (x : Vec Ideal S49152x512 .bf16) (h : S49152x512.ShapeCasts S6x8192x512) (r : Fin 49152) (a : Fin 6)
    (b : Fin 8192) (hr : r.val = a.val * 8192 + b.val) (j : Fin 512) :
    shapeCast S6x8192x512 x h (ix3 a b j) = x (ix2 r j) := by
  pointwise
  blk_ext

/-- Row `8192 a + b` of 64 columns is token `(a, b)`. -/
theorem fold_64 (x : Vec Ideal S49152x64 .bf16) (h : S49152x64.ShapeCasts S6x8192x64) (r : Fin 49152) (a : Fin 6)
    (b : Fin 8192) (hr : r.val = a.val * 8192 + b.val) (j : Fin 64) :
    shapeCast S6x8192x64 x h (ix3 a b j) = x (ix2 r j) := by
  pointwise
  blk_ext

/-- Row `8192 a + b` of 7168 columns is token `(a, b)`. -/
theorem fold_7168 (x : Vec Ideal S49152x7168 .i8) (h : S49152x7168.ShapeCasts S6x8192x7168) (r : Fin 49152) (a : Fin 6)
    (b : Fin 8192) (hr : r.val = a.val * 8192 + b.val) (j : Fin 7168) :
    shapeCast S6x8192x7168 x h (ix3 a b j) = x (ix2 r j) := by
  pointwise
  blk_ext

/-- Row `8192 a + b` of a column is token `(a, b)`. -/
theorem fold_1 (x : Vec Ideal S49152x1 .f32) (h : S49152x1.ShapeCasts S6x8192) (r : Fin 49152) (a : Fin 6)
    (b : Fin 8192) (hr : r.val = a.val * 8192 + b.val) :
    shapeCast S6x8192 x h (ix2 a b) = x (ix2 r 0) := by
  pointwise
  blk_ext

variable (m : (ℓ : Loc nD τ sig) → Buf (Elt Ideal) ℓ)

/-! ## What the grid reads: the arguments, reshaped -/

/-- The grid's activation: argument 0 reshaped. -/
theorem entry_x (c : Dev nD) : (V m c main_v0 : Vec Ideal S49152x7168 .bf16) =
    shapeCast S49152x7168 (m ((c : Thread nD τ).loc main_arg0) : Vec Ideal S6x8192x7168 .bf16) shapeCasts_S6x8192x7168_S49152x7168 := by
  entry_read
  simp only [hostOps0, List.flatten_cons, List.flatten_nil, List.append_nil]
  after_results
  rfl

/-- The grid's weight scales: argument 2 reshaped. -/
theorem entry_ws (c : Dev nD) : (V m c main_v1 : Vec Ideal S1x2112 .f32) =
    shapeCast S1x2112 (m ((c : Thread nD τ).loc main_arg2) : Vec Ideal S2112 .f32) shapeCasts_S2112_S1x2112 := by
  entry_read
  simp only [hostOps0, List.flatten_cons, List.flatten_nil, List.append_nil]
  after_results
  rfl

/-- The grid's query gains: argument 3 reshaped. -/
theorem entry_gq (c : Dev nD) : (V m c main_v2 : Vec Ideal S1x1536 .f32) =
    shapeCast S1x1536 (m ((c : Thread nD τ).loc main_arg3) : Vec Ideal S1536 .f32) shapeCasts_S1536_S1x1536 := by
  entry_read
  simp only [hostOps0, List.flatten_cons, List.flatten_nil, List.append_nil]
  after_results
  rfl

/-- The grid's key/value gains: argument 4 reshaped. -/
theorem entry_gkv (c : Dev nD) : (V m c main_v3 : Vec Ideal S1x512 .f32) =
    shapeCast S1x512 (m ((c : Thread nD τ).loc main_arg4) : Vec Ideal S512 .f32) shapeCasts_S512_S1x512 := by
  entry_read
  simp only [hostOps0, List.flatten_cons, List.flatten_nil, List.append_nil]
  after_results
  rfl

/-- The activation of token `(a, b)`. -/
def tok (c : Dev nD) (a : Fin 6) (b : Fin 8192) : Fin 7168 → EReal := fun k =>
  (m ((c : Thread nD τ).loc main_arg0) : Vec Ideal S6x8192x7168 .bf16) (ix3 a b k)

/-- The projection of token `(a, b)` at column `n`. -/
def tokProj (c : Dev nD) (a : Fin 6) (b : Fin 8192) (n : Fin 2112) : EReal :=
  rowProj (tok m c a b) (fun n k => (m ((c : Thread nD τ).loc main_arg1) : Vec Ideal S2112x7168 .i8) (ix2 n k))
    (fun n => (m ((c : Thread nD τ).loc main_arg2) : Vec Ideal S2112 .f32) (ix1 n)) n

/-- Row `8192 a + b` of the flattened activation is token `(a, b)`. -/
theorem xRow_eq (c : Dev nD) (a : Fin 6) (b : Fin 8192) (r : Fin 49152) (hr : r.val = a.val * 8192 + b.val) :
    xRow m c r = tok m c a b := by
  funext k
  unfold xRow tok
  rw [entry_x]
  exact flat_x _ _ r a b hr k

/-- The weight scales are the third argument. -/
theorem wScale_arg (c : Dev nD) : wScale m c = fun n => (m ((c : Thread nD τ).loc main_arg2) : Vec Ideal S2112 .f32) (ix1 n) := by
  funext n
  unfold wScale
  rw [entry_ws]
  exact row_2112 _ _ n

/-- The query gains are the fourth argument. -/
theorem gainQ_arg (c : Dev nD) (j : Fin 1536) :
    gainQ m c j = (m ((c : Thread nD τ).loc main_arg3) : Vec Ideal S1536 .f32) (ix1 j) := by
  unfold gainQ
  rw [entry_gq]
  exact row_1536 _ _ j

/-- The key/value gains are the fifth argument. -/
theorem gainKV_arg (c : Dev nD) (j : Fin 512) :
    gainKV m c j = (m ((c : Thread nD τ).loc main_arg4) : Vec Ideal S512 .f32) (ix1 j) := by
  unfold gainKV
  rw [entry_gkv]
  exact row_512 _ _ j

/-- The projection of row `8192 a + b` is that of token `(a, b)`. -/
theorem proj_arg (c : Dev nD) (a : Fin 6) (b : Fin 8192) (r : Fin 49152) (hr : r.val = a.val * 8192 + b.val) (n : Fin 2112) :
    rowProj (xRow m c r) (wMat m c) (wScale m c) n = tokProj m c a b n := by
  rw [xRow_eq m c a b r hr, wScale_arg]
  rfl

/-! ## What the host returns: the grid's arrays, reshaped -/

/-- Result 1 is array 5 of the grid, reshaped. -/
theorem tail_q (c : Dev nD) : Pipeline.afterTail₀ cfgs (dats m) 0 (V0 m) [hostOps1] c main_v5
    = shapeCast S6x8192x1536 ((dats m 0 c).arrAt 5 cfg0.N) shapeCasts_S49152x1536_S6x8192x1536 := by
  unfold Pipeline.afterTail₀
  simp only [hostOps1, List.flatten_cons, List.flatten_nil, List.append_nil]
  after_results
  exact congrArg (fun A => shapeCast S6x8192x1536 A shapeCasts_S49152x1536_S6x8192x1536)
    (Pipeline.withArrays_arr spec0 launch0.win.arr_inj c (V0 m c) (fun w => (dats m 0 c).arrAt w cfg0.N) 5)

/-- Result 2 is array 6 of the grid, reshaped. -/
theorem tail_kv (c : Dev nD) : Pipeline.afterTail₀ cfgs (dats m) 0 (V0 m) [hostOps1] c main_v6
    = shapeCast S6x8192x512 ((dats m 0 c).arrAt 6 cfg0.N) shapeCasts_S49152x512_S6x8192x512 := by
  unfold Pipeline.afterTail₀
  simp only [hostOps1, List.flatten_cons, List.flatten_nil, List.append_nil]
  after_results
  exact congrArg (fun A => shapeCast S6x8192x512 A shapeCasts_S49152x512_S6x8192x512)
    (Pipeline.withArrays_arr spec0 launch0.win.arr_inj c (V0 m c) (fun w => (dats m 0 c).arrAt w cfg0.N) 6)

/-- Result 3 is array 7 of the grid, reshaped. -/
theorem tail_pe (c : Dev nD) : Pipeline.afterTail₀ cfgs (dats m) 0 (V0 m) [hostOps1] c main_v7
    = shapeCast S6x8192x64 ((dats m 0 c).arrAt 7 cfg0.N) shapeCasts_S49152x64_S6x8192x64 := by
  unfold Pipeline.afterTail₀
  simp only [hostOps1, List.flatten_cons, List.flatten_nil, List.append_nil]
  after_results
  exact congrArg (fun A => shapeCast S6x8192x64 A shapeCasts_S49152x64_S6x8192x64)
    (Pipeline.withArrays_arr spec0 launch0.win.arr_inj c (V0 m c) (fun w => (dats m 0 c).arrAt w cfg0.N) 7)

/-- Result 4 is array 8 of the grid, reshaped. -/
theorem tail_code (c : Dev nD) : Pipeline.afterTail₀ cfgs (dats m) 0 (V0 m) [hostOps1] c main_v8
    = shapeCast S6x8192x7168 ((dats m 0 c).arrAt 8 cfg0.N) shapeCasts_S49152x7168_S6x8192x7168 := by
  unfold Pipeline.afterTail₀
  simp only [hostOps1, List.flatten_cons, List.flatten_nil, List.append_nil]
  after_results
  exact congrArg (fun A => shapeCast S6x8192x7168 A shapeCasts_S49152x7168_S6x8192x7168)
    (Pipeline.withArrays_arr spec0 launch0.win.arr_inj c (V0 m c) (fun w => (dats m 0 c).arrAt w cfg0.N) 8)

/-- Result 5 is array 9 of the grid, reshaped. -/
theorem tail_s (c : Dev nD) : Pipeline.afterTail₀ cfgs (dats m) 0 (V0 m) [hostOps1] c main_v9
    = shapeCast S6x8192 ((dats m 0 c).arrAt 9 cfg0.N) shapeCasts_S49152x1_S6x8192 := by
  unfold Pipeline.afterTail₀
  simp only [hostOps1, List.flatten_cons, List.flatten_nil, List.append_nil]
  after_results
  exact congrArg (fun A => shapeCast S6x8192 A shapeCasts_S49152x1_S6x8192)
    (Pipeline.withArrays_arr spec0 launch0.win.arr_inj c (V0 m c) (fun w => (dats m 0 c).arrAt w cfg0.N) 9)

/-- The query returned for token `(a, b)`, column `j`. -/
theorem result_q (c : Dev nD) (a : Fin 6) (b : Fin 8192) (j : Fin 1536) :
    (Pipeline.afterTail₀ cfgs (dats m) 0 (V0 m) [hostOps1] c main_v5 : Vec Ideal S6x8192x1536 .bf16) (ix3 a b j)
      = normOf (Ideal.ofBits .f32 0x44C00000#32) (fun l : Fin 1536 => tokProj m c a b ⟨l.val, by omega⟩)
          ((m ((c : Thread nD τ).loc main_arg3) : Vec Ideal S1536 .f32) (ix1 j)) j := by
  rw [tail_q, final_q]
  refine (fold_1536 _ _ ⟨a.val * 8192 + b.val, by omega⟩ a b rfl j).trans ?_
  show Q m c ⟨a.val * 8192 + b.val, _⟩ j = _
  unfold Q
  simp only [proj_arg m c a b ⟨a.val * 8192 + b.val, by omega⟩ rfl, gainQ_arg]

/-- The key/value row returned for token `(a, b)`, column `j`. -/
theorem result_kv (c : Dev nD) (a : Fin 6) (b : Fin 8192) (j : Fin 512) :
    (Pipeline.afterTail₀ cfgs (dats m) 0 (V0 m) [hostOps1] c main_v6 : Vec Ideal S6x8192x512 .bf16) (ix3 a b j)
      = normOf (Ideal.ofBits .f32 0x44000000#32) (fun l : Fin 512 => tokProj m c a b ⟨1536 + l.val, by omega⟩)
          ((m ((c : Thread nD τ).loc main_arg4) : Vec Ideal S512 .f32) (ix1 j)) j := by
  rw [tail_kv, final_kv]
  refine (fold_512 _ _ ⟨a.val * 8192 + b.val, by omega⟩ a b rfl j).trans ?_
  show KV m c ⟨a.val * 8192 + b.val, _⟩ j = _
  unfold KV
  simp only [proj_arg m c a b ⟨a.val * 8192 + b.val, by omega⟩ rfl, gainKV_arg]

/-- The positional row returned for token `(a, b)`, column `j`. -/
theorem result_pe (c : Dev nD) (a : Fin 6) (b : Fin 8192) (j : Fin 64) :
    (Pipeline.afterTail₀ cfgs (dats m) 0 (V0 m) [hostOps1] c main_v7 : Vec Ideal S6x8192x64 .bf16) (ix3 a b j)
      = tokProj m c a b ⟨2048 + j.val, by omega⟩ := by
  rw [tail_pe, final_pe]
  refine (fold_64 _ _ ⟨a.val * 8192 + b.val, by omega⟩ a b rfl j).trans ?_
  show PE m c ⟨a.val * 8192 + b.val, _⟩ j = _
  exact proj_arg m c a b ⟨a.val * 8192 + b.val, by omega⟩ rfl _

/-- The code returned for token `(a, b)`, column `j`. -/
theorem result_code (c : Dev nD) (a : Fin 6) (b : Fin 8192) (j : Fin 7168) :
    (Pipeline.afterTail₀ cfgs (dats m) 0 (V0 m) [hostOps1] c main_v8 : Vec Ideal S6x8192x7168 .i8) (ix3 a b j)
      = rowCode (tok m c a b) j := by
  rw [tail_code, final_code]
  refine (fold_7168 _ _ ⟨a.val * 8192 + b.val, by omega⟩ a b rfl j).trans ?_
  show CODE m c ⟨a.val * 8192 + b.val, _⟩ j = _
  unfold CODE
  rw [xRow_eq m c a b ⟨a.val * 8192 + b.val, by omega⟩ rfl]

/-- The scale returned for token `(a, b)`. -/
theorem result_s (c : Dev nD) (a : Fin 6) (b : Fin 8192) :
    (Pipeline.afterTail₀ cfgs (dats m) 0 (V0 m) [hostOps1] c main_v9 : Vec Ideal S6x8192 .f32) (ix2 a b)
      = rowScale (tok m c a b) := by
  rw [tail_s, final_s]
  refine (fold_1 _ _ ⟨a.val * 8192 + b.val, by omega⟩ a b rfl).trans ?_
  show rowScale (xRow m c ⟨a.val * 8192 + b.val, _⟩) = _
  rw [xRow_eq m c a b ⟨a.val * 8192 + b.val, by omega⟩ rfl]

end Cert.KernelIdeal.Results

end
-- ==== Proof.ReferenceRows.lean ====
/-
  The reference's arithmetic at one element: each result, read at token `(a, b)`, is the row function of `Rows` at that
  token's activation row.
-/
module

public import proofs.«01_k».proof.Proof.Gen.ReferenceIdeal.Skeleton
public import proofs.«01_k».proof.Proof.Rows

@[expose] public section

set_option maxRecDepth 16384

noncomputable section

namespace Cert.ReferenceIdeal.Rows

open Idealize.ShloMosaic Idealize.SL.Sem Cert.ReferenceIdeal Cert.ReferenceIdeal.Gen Cert.Rows

/-- The row maximum of the magnitudes. -/
theorem max_apply (x : FVec Ideal S6x8192x7168 .f32) (h : S6x8192x7168.Reduces [2] S6x8192) (hk hw) (a : Fin 6)
    (b : Fin 8192) :
    multiReduction (F := Ideal) .maximumf [2] S6x8192 (absf x) 0xFF800000#32 h hk hw (ix2 a b)
      = rowMax fun k => x (ix3 a b k) := by
  unfold rowMax
  pointwise

/-- The scale, from any array of row maxima. -/
theorem scale_apply (v : FVec Ideal S6x8192 .f32) (a : Fin 6) (b : Fin 8192) :
    select (cmpf .oeq v (broadcast S6x8192 (Scalar.ofBits (F := Ideal) .f32 0x00000000#32)))
        (broadcast S6x8192 (Scalar.ofBits (F := Ideal) .f32 0x3F800000#32))
        (divf v (broadcast S6x8192 (Scalar.ofBits (F := Ideal) .f32 0x42FE0000#32))) (ix2 a b)
      = scaleOf (v (ix2 a b)) := by
  unfold scaleOf
  pointwise

/-- The activation converted to f32 is the activation. -/
theorem pay4_eq (x : Vec Ideal S6x8192x7168 .bf16) : k0_pay4 (F := Ideal) x = x := by
  funext j
  pointwise [k0_pay4]

/-- The scale of token `(a, b)`. -/
theorem s_apply (x : Vec Ideal S6x8192x7168 .bf16) (a : Fin 6) (b : Fin 8192) :
    k0_pay5 (F := Ideal) x (ix2 a b) = rowScale fun k => x (ix3 a b k) :=
  (scale_apply _ a b).trans (congrArg scaleOf ((max_apply _ _ _ _ a b).trans (by rw [pay4_eq])))

/-- The code, from any array of scales. -/
theorem code_of (x : FVec Ideal S6x8192x7168 .f32) (s : FVec Ideal S6x8192 .f32) (hc : S6x8192.ShapeCasts S6x8192x1)
    (h : S6x8192x1.Broadcasts S6x8192x7168) (a : Fin 6) (b : Fin 8192) (k : Fin 7168) :
    fptosi 8 (minimumf (broadcast S6x8192x7168 (Scalar.ofBits (F := Ideal) .f32 0x42FE0000#32))
        (maximumf (broadcast S6x8192x7168 (Scalar.ofBits (F := Ideal) .f32 0xC2FE0000#32))
          (roundeven (divf x (broadcastTo S6x8192x7168 (shapeCast S6x8192x1 s hc) h))))) (ix3 a b k)
      = codeOf (s (ix2 a b)) (x (ix3 a b k)) := by
  unfold codeOf
  pointwise

/-- The code of token `(a, b)` at column `k`. -/
theorem code_apply (x : Vec Ideal S6x8192x7168 .bf16) (a : Fin 6) (b : Fin 8192) (k : Fin 7168) :
    k0_pay6 (F := Ideal) x (ix3 a b k) = rowCode (fun k => x (ix3 a b k)) k :=
  (code_of _ _ _ _ a b k).trans (by rw [s_apply, pay4_eq]; rfl)

/-- The scaled product, from any codes and any array of scales known at token `(a, b)`. -/
theorem proj_of (q : IVec S6x8192x7168 8) (s : FVec Ideal S6x8192 .f32) (w : IVec S2112x7168 8)
    (ws : FVec Ideal S2112 .f32) (h : S6x8192.ShapeCasts S6x8192x1) (hs : S6x8192x1.Broadcasts S6x8192x2112)
    (h' : S2112.ShapeCasts S1x1x2112) (hw : S1x1x2112.Broadcasts S6x8192x2112) (a : Fin 6) (b : Fin 8192) (n : Fin 2112)
    (qr : Fin 7168 → BitVec 8) (sr : EReal) (hqr : ∀ k, q (ix3 a b k) = qr k) (hsr : s (ix2 a b) = sr) :
    mulf (matmul (F := Ideal) (φ₁ := .bf16) (φ₂ := .bf16) dot_S6x8192x7168_S2112x7168_S6x8192x2112_2_1_01_0_n_n none
          (sitofp .bf16 q) (sitofp .bf16 w) (constant S6x8192x2112 .f32 0x00000000#32))
        (mulf (broadcastTo S6x8192x2112 (shapeCast S6x8192x1 s h) hs)
          (broadcastTo S6x8192x2112 (shapeCast S1x1x2112 ws h') hw)) (ix3 a b n)
      = projOf qr (fun k => w (ix2 n k)) sr (ws (ix1 n)) := by
  unfold projOf
  pointwise
  simp only [hqr, hsr]

/-- The projected value of token `(a, b)` at column `n`. -/
theorem proj_apply (x : Vec Ideal S6x8192x7168 .bf16) (w : Vec Ideal S2112x7168 .i8) (ws : Vec Ideal S2112 .f32)
    (a : Fin 6) (b : Fin 8192) (n : Fin 2112) :
    k0_pay7 (F := Ideal) x w ws (ix3 a b n)
      = rowProj (fun k => x (ix3 a b k)) (fun n k => w (ix2 n k)) (fun n => ws (ix1 n)) n :=
  proj_of _ _ _ _ _ _ _ _ a b n _ _ (fun k => code_apply x a b k) (s_apply x a b)

/-- The query's slice of the projection. -/
theorem pay8_apply (x : Vec Ideal S6x8192x7168 .bf16) (w : Vec Ideal S2112x7168 .i8) (ws : Vec Ideal S2112 .f32)
    (a : Fin 6) (b : Fin 8192) (l : Fin 1536) :
    k0_pay8 (F := Ideal) x w ws (ix3 a b l) = k0_pay7 (F := Ideal) x w ws (ix3 a b ⟨l.val, by omega⟩) := by
  unfold k0_pay8
  generalize k0_pay7 (F := Ideal) x w ws = y
  pointwise

/-- The key/value's slice of the projection. -/
theorem pay9_apply (x : Vec Ideal S6x8192x7168 .bf16) (w : Vec Ideal S2112x7168 .i8) (ws : Vec Ideal S2112 .f32)
    (a : Fin 6) (b : Fin 8192) (l : Fin 512) :
    k0_pay9 (F := Ideal) x w ws (ix3 a b l) = k0_pay7 (F := Ideal) x w ws (ix3 a b ⟨1536 + l.val, by omega⟩) := by
  unfold k0_pay9
  generalize k0_pay7 (F := Ideal) x w ws = y
  pointwise

/-- The positional part's slice of the projection. -/
theorem pay10_apply (x : Vec Ideal S6x8192x7168 .bf16) (w : Vec Ideal S2112x7168 .i8) (ws : Vec Ideal S2112 .f32)
    (a : Fin 6) (b : Fin 8192) (l : Fin 64) :
    k0_pay10 (F := Ideal) x w ws (ix3 a b l) = k0_pay7 (F := Ideal) x w ws (ix3 a b ⟨2048 + l.val, by omega⟩) := by
  unfold k0_pay10
  generalize k0_pay7 (F := Ideal) x w ws = y
  pointwise

/-- The reciprocal root mean square of a row of 1536 columns, spread over its columns. -/
theorem rms_of (y : FVec Ideal S6x8192x1536 .f32) (h : S6x8192x1536.Reduces [2] S6x8192) (hk hw)
    (hc : S6x8192.ShapeCasts S6x8192x1) (hb : S6x8192x1.Broadcasts S6x8192x1536) (a : Fin 6) (b : Fin 8192) (j : Fin 1536) :
    broadcastTo S6x8192x1536 (rsqrt (addf
        (divf (shapeCast S6x8192x1 (multiReduction (F := Ideal) .add [2] S6x8192 (mulf y y) 0x00000000#32 h hk hw) hc)
          (broadcast S6x8192x1 (Scalar.ofBits (F := Ideal) .f32 0x44C00000#32)))
        (broadcast S6x8192x1 (Scalar.ofBits (F := Ideal) .f32 0x358637BD#32)))) hb (ix3 a b j)
      = Ideal.rsqrt (Ideal.div (∑ l : Fin 1536, y (ix3 a b l) * y (ix3 a b l)) (Ideal.ofBits .f32 0x44C00000#32)
          + Ideal.ofBits .f32 0x358637BD#32) := by
  pointwise

/-- The reciprocal root mean square of a query row, spread over its columns. -/
theorem pay11_apply (x : Vec Ideal S6x8192x7168 .bf16) (w : Vec Ideal S2112x7168 .i8) (ws : Vec Ideal S2112 .f32)
    (a : Fin 6) (b : Fin 8192) (j : Fin 1536) :
    k0_pay11 (F := Ideal) x w ws (ix3 a b j)
      = Ideal.rsqrt (Ideal.div (∑ l : Fin 1536, k0_pay8 (F := Ideal) x w ws (ix3 a b l) * k0_pay8 (F := Ideal) x w ws (ix3 a b l))
          (Ideal.ofBits .f32 0x44C00000#32) + Ideal.ofBits .f32 0x358637BD#32) := by
  unfold k0_pay11
  exact rms_of _ _ _ _ _ _ a b j

/-- The query norm from its row and the row's reciprocal root mean square. -/
theorem pay1_apply (y z : FVec Ideal S6x8192x1536 .f32) (g : Vec Ideal S1536 .f32) (a : Fin 6) (b : Fin 8192) (j : Fin 1536) :
    k0_pay1 (F := Ideal) y g z (ix3 a b j) = y (ix3 a b j) * z (ix3 a b j) * g (ix1 j) := by
  pointwise [k0_pay1]

/-- The query of token `(a, b)` at column `j`. -/
theorem q_apply (x : Vec Ideal S6x8192x7168 .bf16) (w : Vec Ideal S2112x7168 .i8) (ws : Vec Ideal S2112 .f32)
    (g : Vec Ideal S1536 .f32) (a : Fin 6) (b : Fin 8192) (j : Fin 1536) :
    k0_pay1 (F := Ideal) (k0_pay8 x w ws) g (k0_pay11 x w ws) (ix3 a b j)
      = normOf (Ideal.ofBits .f32 0x44C00000#32)
          (fun l => rowProj (fun k => x (ix3 a b k)) (fun n k => w (ix2 n k)) (fun n => ws (ix1 n)) ⟨l.val, by omega⟩)
          (g (ix1 j)) j := by
  rw [pay1_apply, pay11_apply]
  unfold normOf
  simp only [pay8_apply, proj_apply]

/-- The key/value norm from any 512 columns. -/
theorem pay2_apply (y : FVec Ideal S6x8192x512 .f32) (g : Vec Ideal S512 .f32) (a : Fin 6) (b : Fin 8192) (j : Fin 512) :
    k0_pay2 (F := Ideal) y g (ix3 a b j)
      = normOf (Ideal.ofBits .f32 0x44000000#32) (fun l => y (ix3 a b l)) (g (ix1 j)) j := by
  unfold normOf
  pointwise [k0_pay2]

/-- The key/value row of token `(a, b)` at column `j`. -/
theorem kv_apply (x : Vec Ideal S6x8192x7168 .bf16) (w : Vec Ideal S2112x7168 .i8) (ws : Vec Ideal S2112 .f32)
    (g : Vec Ideal S512 .f32) (a : Fin 6) (b : Fin 8192) (j : Fin 512) :
    k0_pay2 (F := Ideal) (k0_pay9 x w ws) g (ix3 a b j)
      = normOf (Ideal.ofBits .f32 0x44000000#32)
          (fun l => rowProj (fun k => x (ix3 a b k)) (fun n k => w (ix2 n k)) (fun n => ws (ix1 n)) ⟨1536 + l.val, by omega⟩)
          (g (ix1 j)) j := by
  rw [pay2_apply]
  simp only [pay9_apply, proj_apply]

/-- The positional result is its slice. -/
theorem pay3_apply (y : FVec Ideal S6x8192x64 .f32) (a : Fin 6) (b : Fin 8192) (j : Fin 64) :
    k0_pay3 (F := Ideal) y (ix3 a b j) = y (ix3 a b j) := by
  pointwise [k0_pay3]

/-- The positional row of token `(a, b)` at column `j`. -/
theorem pe_apply (x : Vec Ideal S6x8192x7168 .bf16) (w : Vec Ideal S2112x7168 .i8) (ws : Vec Ideal S2112 .f32)
    (a : Fin 6) (b : Fin 8192) (j : Fin 64) :
    k0_pay3 (F := Ideal) (k0_pay10 x w ws) (ix3 a b j)
      = rowProj (fun k => x (ix3 a b k)) (fun n k => w (ix2 n k)) (fun n => ws (ix1 n)) ⟨2048 + j.val, by omega⟩ :=
  (pay3_apply _ a b j).trans ((pay10_apply x w ws a b j).trans (proj_apply x w ws a b _))

end Cert.ReferenceIdeal.Rows

end
-- ==== Proof.Algebraic.lean ====
/-
  The kernel and the reference compute the same five results, as extended reals.
-/
module

public import proofs.«01_k».proof.Defs
public import proofs.«01_k».proof.Proof.KernelResults
public import proofs.«01_k».proof.Proof.ReferenceRows
public import proofs.«01_k».proof.Proof.Gen.KernelIdeal.Frame
public import proofs.«01_k».proof.Proof.Gen.ReferenceIdeal.Value
public import Idealize.ShloMosaic.Lib.Claim

@[expose] public section

set_option maxRecDepth 16384

noncomputable section

namespace Cert.Algebraic

open Idealize.ShloMosaic Idealize.ShloMosaic.TcCoe Idealize.SL.Sem
open Cert.KernelIdeal Cert.KernelIdeal.Gen

variable (m : (ℓ : Loc nD τ sig) → Buf (Elt Ideal) ℓ)

/-- The kernel's query is the reference's. -/
theorem q_agree (c : Dev nD) : Pipeline.afterTail₀ cfgs (dats m) 0 (V0 m) [hostOps1] c main_v5
    = Cert.ReferenceIdeal.Value.G5 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : ∀ (a : Fin 6) (b : Fin 8192) (j : Fin 1536), _ := fun a b j =>
    (Results.result_q m c a b j).trans (Cert.ReferenceIdeal.Rows.q_apply (m ((c : Thread nD τ).loc main_arg0)) (m ((c : Thread nD τ).loc main_arg1)) (m ((c : Thread nD τ).loc main_arg2))
    (m ((c : Thread nD τ).loc main_arg3)) a b j).symm
  refine funext fun y => ?_
  idx_vars y
  exact h _ _ _

/-- The kernel's key/value row is the reference's. -/
theorem kv_agree (c : Dev nD) : Pipeline.afterTail₀ cfgs (dats m) 0 (V0 m) [hostOps1] c main_v6
    = Cert.ReferenceIdeal.Value.G6 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : ∀ (a : Fin 6) (b : Fin 8192) (j : Fin 512), _ := fun a b j =>
    (Results.result_kv m c a b j).trans (Cert.ReferenceIdeal.Rows.kv_apply (m ((c : Thread nD τ).loc main_arg0)) (m ((c : Thread nD τ).loc main_arg1)) (m ((c : Thread nD τ).loc main_arg2))
    (m ((c : Thread nD τ).loc main_arg4)) a b j).symm
  refine funext fun y => ?_
  idx_vars y
  exact h _ _ _

/-- The kernel's positional row is the reference's. -/
theorem pe_agree (c : Dev nD) : Pipeline.afterTail₀ cfgs (dats m) 0 (V0 m) [hostOps1] c main_v7
    = Cert.ReferenceIdeal.Value.G7 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : ∀ (a : Fin 6) (b : Fin 8192) (j : Fin 64), _ := fun a b j =>
    (Results.result_pe m c a b j).trans (Cert.ReferenceIdeal.Rows.pe_apply (m ((c : Thread nD τ).loc main_arg0)) (m ((c : Thread nD τ).loc main_arg1)) (m ((c : Thread nD τ).loc main_arg2)) a b j).symm
  refine funext fun y => ?_
  idx_vars y
  exact h _ _ _

/-- The kernel's codes are the reference's. -/
theorem code_agree (c : Dev nD) : Pipeline.afterTail₀ cfgs (dats m) 0 (V0 m) [hostOps1] c main_v8
    = Cert.ReferenceIdeal.Value.G8 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : ∀ (a : Fin 6) (b : Fin 8192) (j : Fin 7168), _ := fun a b j =>
    (Results.result_code m c a b j).trans (Cert.ReferenceIdeal.Rows.code_apply (m ((c : Thread nD τ).loc main_arg0)) a b j).symm
  refine funext fun y => ?_
  idx_vars y
  exact h _ _ _

/-- The kernel's scales are the reference's. -/
theorem s_agree (c : Dev nD) : Pipeline.afterTail₀ cfgs (dats m) 0 (V0 m) [hostOps1] c main_v9
    = Cert.ReferenceIdeal.Value.G9 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  have h : ∀ (a : Fin 6) (b : Fin 8192), _ := fun a b =>
    (Results.result_s m c a b).trans (Cert.ReferenceIdeal.Rows.s_apply (m ((c : Thread nD τ).loc main_arg0)) a b).symm
  refine funext fun y => ?_
  idx_vars y
  exact h _ _

/-- From memories that agree on the five arguments, both programs end with equal results. -/
theorem algebraic : Cert.algebraic_KernelIdeal_ReferenceIdeal := by
  intro m g m' g' _ hagree
  refine ⟨fun c => Pipeline.afterTail₀ cfgs (dats m) 0 (V0 m) [hostOps1] c main_v5,
    fun c => Pipeline.afterTail₀ cfgs (dats m) 0 (V0 m) [hostOps1] c main_v6,
    fun c => Pipeline.afterTail₀ cfgs (dats m) 0 (V0 m) [hostOps1] c main_v7,
    fun c => Pipeline.afterTail₀ cfgs (dats m) 0 (V0 m) [hostOps1] c main_v8,
    fun c => Pipeline.afterTail₀ cfgs (dats m) 0 (V0 m) [hostOps1] c main_v9, ?_, ?_⟩
  · run_from Cert.KernelIdeal.Gen.run_main m g
    · exact W_main_arg0 m (dats m) c
    · exact W_main_arg2 m (dats m) c
    · exact W_main_arg3 m (dats m) c
    · exact W_main_arg4 m (dats m) c
  · refine (θ_run _ _ _).mono (fun r h c => ?_) (Cert.ReferenceIdeal.Value.run m' g')
    obtain ⟨h0, h1, h2, h3, h4, hargs⟩ := h c
    obtain ⟨e0, e1, e2, e3, e4⟩ := hagree c
    refine ⟨h0.trans ?_, h1.trans ?_, h2.trans ?_, h3.trans ?_, h4.trans ?_, hargs⟩
    · refine Eq.trans ?_ (q_agree m c).symm
      rw [e0, e1, e2, e3, e4]
    · refine Eq.trans ?_ (kv_agree m c).symm
      rw [e0, e1, e2, e3, e4]
    · refine Eq.trans ?_ (pe_agree m c).symm
      rw [e0, e1, e2, e3, e4]
    · refine Eq.trans ?_ (code_agree m c).symm
      rw [e0, e1, e2, e3, e4]
    · refine Eq.trans ?_ (s_agree m c).symm
      rw [e0, e1, e2, e3, e4]

end Cert.Algebraic

end
-- ==== Proof.lean ====
/-
  The proof of `Cert.Claim`: the three frames come from the generated modules, the ideal kernel needs no rewrites, and
  `Algebraic` shows that kernel and reference compute the same five results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The three programs terminate without fault and keep their arguments; the ideal kernel is the kernel over the extended
    reals; and the kernel and the reference compute the same five results there. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Cert.Algebraic.algebraic⟩

end Cert.Proof

end
